-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v1_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v1_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x2048 : Shape := ⟨3, ![4, 8192, 2048]⟩
abbrev S4x8192 : Shape := ⟨2, ![4, 8192]⟩
abbrev S256x16x128 : Shape := ⟨3, ![256, 16, 128]⟩
abbrev S32768x2048 : Shape := ⟨2, ![32768, 2048]⟩
abbrev S8 : Shape := ⟨1, ![8]⟩
abbrev S_ : Shape := ⟨0, ![]⟩
abbrev S1 : Shape := ⟨1, ![1]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .i32⟩
  | .hbm, ⟨2, _⟩ => ⟨S256x16x128, .f32⟩
  | .hbm, ⟨3, _⟩ => ⟨S32768x2048, .f32⟩
  | .hbm, ⟨4, _⟩ => ⟨S32768x2048, .f32⟩
  | .hbm, ⟨5, _⟩ => ⟨S4x8192, .i32⟩
  | .hbm, ⟨6, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩

abbrev nD : Nat := 1
abbrev τ : Topo := Topo.v7x

variable {F : FTy → Type} [FloatOps F]

abbrev grid0 : Pipeline.Grid := .none
-- ==== Reference.lean ====
abbrev S4x8192x2048 : Shape := ⟨3, ![4, 8192, 2048]⟩
abbrev S4x8192 : Shape := ⟨2, ![4, 8192]⟩
abbrev S256x16x128 : Shape := ⟨3, ![256, 16, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .i32⟩
  | .hbm, ⟨2, _⟩ => ⟨S256x16x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩

abbrev nD : Nat := 1
abbrev τ : Topo := Topo.v7x

variable {F : FTy → Type} [FloatOps F]
-- ==== Proof.Body.lean ====
/-
  The body of the pallas_call, run once: eight transfers copy the eight blocks of 4096 rows of the reshaped `x` into
  the same rows of the first result, one transfer copies the positions into the second result, all nine are in flight
  together, and the body then waits for each.
-/
module

public import proofs.«01_k».proof.Proof.Gen.KernelIdeal.Frame
public import proofs.«01_k».proof.Proof.Gen.KernelIdeal.Skeleton
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the run is stated over: the pipeline's own beside the transfers' counters. -/
local notation "𝕄" => MT nD τ sig Unit (Elt F) ℕ (Pipeline.UD sig nD τ) ℕ

/-- What one whole buffer of core `c` holds. -/
abbrev Cont (c : Dev nD) (b : Ref sig .tc) : Type := Buf (Elt F) ((Memref.whole b).view.loc (c : Thread nD τ))

/-- The whole buffer `b` of core `c`, held in full at contents `f`. -/
abbrev holds (c : Dev nD) (b : Ref sig .tc) (f : Cont (F := F) c b) : sProp 𝕄 :=
  iprop((Memref.whole b).view.loc (c : Thread nD τ) ↦{fullShare} f)

/-- Blocks written over the first result, each with what the source holds there, and together covering the array, leave it
    equal to the source, whatever it held before. -/
theorem writes_blocks (c : Dev nD) (y : Cont (F := F) c main_v1_0) (x : Cont (F := F) c main_v0)
    (L : List (View.Piece (Elt F) S32768x2048 .f32)) (hL : ∀ p ∈ L, ∀ i : p.1.shape.Idx, p.2 i = x (p.1.emb i))
    (hcover : ∀ i, ∃ p ∈ L, i ∈ p.1.set) : (Memref.whole main_v1_0).view.writes (Elt F) y L = x :=
  funext fun i => View.read_writes_apply_of_pieces (Memref.whole main_v1_0).view y x L hL i (hcover i)

set_option sl_exec.dmaWindow true in
/-- The body, started with the four buffers held in full and the nine counters at zero, ends with the first result equal to
    the reshaped `x`, the second equal to the positions, what it read unchanged, and the counters at zero again. -/
theorem body_run (c : Dev nD) (x : Cont (F := F) c main_v0) (p : Cont (F := F) c main_arg1)
    (y : Cont (F := F) c main_v1_0) (q : Cont (F := F) c main_v1_1) (W : Waits sig Unit) (t : Fin cfg0.N) (K : PUnit → sProp 𝕄) :
    iprop(holds c main_v0 x ∗ holds c main_arg1 p ∗ holds c main_v1_0 y ∗ holds c main_v1_1 q
        ∗ semVal ((c : Thread nD τ), SemLoc.dma 0) 0 ∗ semVal ((c : Thread nD τ), SemLoc.dma 1) 0
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ semVal ((c : Thread nD τ), SemLoc.dma 8) 0 ∗ owes (c : Thread nD τ) 0 W
        ∗ (iprop(holds c main_v0 x ∗ holds c main_arg1 p ∗ holds c main_v1_0 x ∗ holds c main_v1_1 p
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ semVal ((c : Thread nD τ), SemLoc.dma 8) 0 ∗ (∃ W', owes (c : Thread nD τ) 0 W')) -∗ K ⟨⟩))
      ⊢ wp frame (wpE (defs₀ (F := F)) Variants.none c none) Set.univ (bodyAt0 t) K := by
  unfold bodyAt0
  simp only [cc0__dma_body_eq_skeleton]; unfold cc0__dma_body_skel
  iintro ⟨Hx, Hp, Hy, Hq, H0, H1, H2, H3, H4, H5, H6, H7, H8, HW, Hk⟩
  sl_exec
  sl_step
  iapply Hk
  isplitl [Hx]; · iexact Hx
  isplitl [Hp]; · iexact Hp
  isplitl [Hy]
  · unfold holds
    refine Eq.rec (motive := fun z _ => _ ⊢ iprop(_ ↦{fullShare} z)) .rfl ?_
    unfold body_run.sl.dma0_7 body_run.sl.dma0_6 body_run.sl.dma0_5 body_run.sl.dma0_4 body_run.sl.dma0_3 body_run.sl.dma0_2
      body_run.sl.dma0_1 body_run.sl.dma0
    refine writes_blocks c y x _ ?_ (View.cover_of_tiled _ ![4096, 2048] (by rfl))
    simp only [List.forall_mem_cons, List.forall_mem_nil, and_true]
    exact ⟨fun _ => rfl, fun _ => rfl, fun _ => rfl, fun _ => rfl, fun _ => rfl, fun _ => rfl, fun _ => rfl, fun _ => rfl, fun _ h => nomatch h⟩
  isplitl [Hq]
  · unfold holds
    refine Eq.rec (motive := fun z _ => _ ⊢ iprop(_ ↦{fullShare} z)) .rfl ?_
    unfold body_run.sl.dma0_8
    simp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact HW

end Cert.KernelIdeal.Hand

end
-- ==== Proof.Run.lean ====
/-
  The whole run of the kernel's program: `x` reshaped to rows, the pallas_call that copies it and the positions, and the
  copy reshaped back. It ends with `x` in the first result, the positions in the second, the arguments as they were and
  every semaphore counter at zero.
-/
module

public import proofs.«01_k».proof.Proof.Body
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body holds -/

/-- The nine counters the body's transfers and waits use. -/
def cells : Fin 9 → SemLoc sig := fun i => SemLoc.dma i

/-- The buffers the body only reads: the reshaped `x` and the positions. -/
def readRefs : Finset (Ref sig .tc) := {main_v0, main_arg1}

/-- The buffers the body writes: the two results of the pallas_call. -/
def writtenRefs : Finset (Ref sig .tc) := {main_v1_0, main_v1_1}

/-- The nine counters are scoped, distinct, and no window's. -/
theorem cells_facts : Pipeline.OwnSemFacts cfg0.spec cells := by decide

/-- The region stages neither buffer read through a window. -/
theorem readRefs_sub : readRefs ⊆ Pipeline.restRefs sig cfg0.spec := by decide

/-- The region stages neither buffer written through a window, and neither is one of those read. -/
theorem writtenRefs_sub : writtenRefs ⊆ Pipeline.restRefs sig cfg0.spec \ readRefs := by decide

/-- What the region leaves in each buffer: the results hold what the buffers they were copied from hold. -/
def left (c : Dev nD) : (b : Ref sig .tc) → Buf (Elt F) ((c : Thread nD τ).loc b) :=
  Function.update (Function.update (V m c) main_v1_0 (V m c main_v0)) main_v1_1 (V m c main_arg1)

/-- The first result ends as the rows of `x` the region finds. -/
theorem left_rows (c : Dev nD) : left m c main_v1_0 = V m c main_v0 := by
  unfold left
  rw [Function.update_of_ne (by decide), Function.update_self]

/-- The second result ends as the positions the region finds. -/
theorem left_positions (c : Dev nD) : left m c main_v1_1 = V m c main_arg1 := by
  unfold left
  rw [Function.update_self]

/-- The counters at zero, one by one. -/
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 0) 0 ∗ semVal ((c : Thread nD τ), SemLoc.dma 1) 0
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ semVal ((c : Thread nD τ), SemLoc.dma 8) 0) :=
  Pipeline.ownSems0_eq_of_list c cells [0, 1, 2, 3, 4, 5, 6, 7, 8] (by decide) (by decide)

/-- The two buffers read, one by one. -/
theorem read_eq (c : Dev nD) (f : (b : Ref sig .tc) → Buf (Elt F) ((c : Thread nD τ).loc b)) :
    (bigSep readRefs fun b => ((c : Thread nD τ).loc b) ↦{fullShare} f b : sProp 𝕄)
      = iprop(holds c main_v0 (f main_v0) ∗ holds c main_arg1 (f main_arg1)) :=
  BI.bigSep_eq_bigSepL_of_eq [main_v0, main_arg1] (by decide) (by decide) _

/-- The two buffers written, one by one. -/
theorem written_eq (c : Dev nD) (f : (b : Ref sig .tc) → Buf (Elt F) ((c : Thread nD τ).loc b)) :
    (bigSep writtenRefs fun b => ((c : Thread nD τ).loc b) ↦{fullShare} f b : sProp 𝕄)
      = iprop(holds c main_v1_0 (f main_v1_0) ∗ holds c main_v1_1 (f main_v1_1)) :=
  BI.bigSep_eq_bigSepL_of_eq [main_v1_0, main_v1_1] (by decide) (by decide) _

/-- What the body holds besides its core's waits, the written buffers at `f`. -/
abbrev state (c : Dev nD) (f : (c : Dev nD) → (b : Ref sig .tc) → Buf (Elt F) ((c : Thread nD τ).loc b)) : sProp 𝕄 :=
  Pipeline.ΦDRV cells cfg0.spec readRefs writtenRefs (V m) f c

/-- The proof data of the pallas_call, which stages no window: before its one point the results are as the region finds
    them, after it they are copied. -/
def dats (_ : Fin 1) (c : Dev nD) : Dat τ (Elt F) Unit ℕ (Pipeline.UD sig nD τ) ℕ cfg0 c where
  A w := w.elim0
  after w _ := w.elim0
  Φ t := if t = 0 then state m c (V m) else state m c (left m)
  q _ := fullShare
  owed _ := 0

/-- The body at its one point copies the results. -/
theorem body_obligation (c : Dev nD) : BodyObligationLoose (dats m 0 c) (defs₀ (F := F)) Variants.none () Set.univ := by
  intro t
  have ht : t.val = 0 := by rw [show t = t0_0 from fin_N0 t]; rfl
  have h0 : (dats m 0 c).Φ t.castSucc = state m c (V m) := by
    dsimp only [dats]; exact if_pos (Fin.ext ht)
  have h1 : (dats m 0 c).Φ t.succ = state m c (left m) := by
    dsimp only [dats]; exact if_neg (Fin.succ_ne_zero t)
  have hb : defs₀ (F := F) .tc cfg0.body (cfg0.bodyArgs t (cfg0.slots t)) = bodyAt0 t := by
    unfold defs₀; rw [Defs.onTc_tc]
  rw [h0, h1, hb]
  unfold state Pipeline.ΦDRV
  rw [cells_eq, read_eq, written_eq, written_eq, left_rows, left_positions]
  unfold Dat.owesAt Pipeline.owesWithin
  rw [show (dats m 0 c).owed t.castSucc = 0 from rfl, show (dats m 0 c).owed t.succ = 0 from rfl]
  iintro ⟨⟨HS, ⟨H0, H1, H2, H3, H4, H5, H6, H7, H8⟩, ⟨Hx, Hp⟩, Hy, Hq⟩, ⟨%W, -, HW⟩, HE⟩
  iapply (body_run c (V m c main_v0) (V m c main_arg1) (V m c main_v1_0) (V m c main_v1_1) W t _)
  isplitl [Hx]; · iexact Hx
  isplitl [Hp]; · iexact Hp
  isplitl [Hy]; · iexact Hy
  isplitl [Hq]; · iexact Hq
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  iintro ⟨Hx, Hp, Hy, Hq, H0, H1, H2, H3, H4, H5, H6, H7, H8, ⟨%W', HW⟩⟩
  isplitl [HS H0 H1 H2 H3 H4 H5 H6 H7 H8 Hx Hp Hy Hq]
  · isplitl [HS]; · iexact HS
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Hx Hp]
    · isplitl [Hx]; · iexact Hx
      iexact Hp
    isplitl [Hy]; · iexact Hy
    iexact Hq
  isplitl [HW]
  · iexists W'; isplitr; · ipureintro; exact fun _ _ => Or.inl trivial
    iexact HW
  iexact HE

/-! ## The run -/

set_option maxHeartbeats 800000 in
/-- The program is the host line before the region, the region, and the host line after it. -/
theorem around : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The region finds `x` reshaped to rows. -/
theorem V_rows (c : Dev nD) :
    V m c main_v0 = shapeCast S32768x2048 (m ((c : Thread nD τ).loc main_arg0)) shapeCasts_S4x8192x2048_S32768x2048 := by
  show StableHlo.after (List.flatten [hostOps0]) (fun b => m (c, b)) (Proc.devRef .tc main_v0) = _
  simp only [hostOps0, List.flatten_cons, List.flatten_nil, List.append_nil, StableHlo.after_cons, StableHlo.after_nil]
  rw [StableHlo.reshape_result]
  rfl

/-- The contents of core `c` when the region is done. -/
abbrev regionVal (c : Dev nD) : Valuation τ sig (Elt F) :=
  Pipeline.withArrays cfg0.spec c (Pipeline.withR (V0 m c) writtenRefs c (left m c)) fun w => (dats m 0 c).arrAt w cfg0.N

/-- The region changes no buffer but the two results. -/
theorem regionVal_of_not_written (c : Dev nD) (b : Ref sig .tc) (hb : b ∉ writtenRefs) :
    regionVal m c (Proc.devRef .tc b) = V m c b := by
  unfold regionVal
  rw [Pipeline.withArrays_of_ne _ _ _ _ _ (fun w => w.elim0), Pipeline.withR_of_not_mem _ _ _ _ _ hb]

/-- The region leaves `left` in the two results. -/
theorem regionVal_of_written (c : Dev nD) (b : Ref sig .tc) (hb : b ∈ writtenRefs) :
    regionVal m c (Proc.devRef .tc b) = left m c b := by
  unfold regionVal
  rw [Pipeline.withArrays_of_ne _ _ _ _ _ (fun w => w.elim0), Pipeline.withR_of_mem _ _ _ _ _ hb]

/-- The host line after the region changes the final result only. -/
theorem tail_of_ne (W : Valuation τ sig (Elt F)) (b : Ref sig .tc) (hb : b ≠ main_v2) :
    StableHlo.after (List.flatten [hostOps1]) W (Proc.devRef .tc b) = W (Proc.devRef .tc b) := by
  simp only [hostOps1, List.flatten_cons, List.flatten_nil, List.append_nil, StableHlo.after_cons, StableHlo.after_nil]
  rw [StableHlo.reshape_result_ne (h := hb)]

/-- The host line after the region reshapes the first result. -/
theorem tail_result (W : Valuation τ sig (Elt F)) : StableHlo.after (List.flatten [hostOps1]) W (Proc.devRef .tc main_v2)
    = shapeCast S4x8192x2048 (W (Proc.devRef .tc main_v1_0)) shapeCasts_S32768x2048_S4x8192x2048 := by
  simp only [hostOps1, List.flatten_cons, List.flatten_nil, List.append_nil, StableHlo.after_cons, StableHlo.after_nil]
  rw [StableHlo.reshape_result]
  rfl

/-- What the run ends with: `x` and the positions in the results, the arguments unchanged, every counter at zero. -/
def Copied (r : PUnit × MemSt nD τ sig (Elt F)) : Prop :=
  (∀ c : Dev nD,
    r.2.mem ((c.tc : Thread nD τ).loc main_v2) = m ((c.tc : Thread nD τ).loc main_arg0)
    ∧ r.2.mem ((c.tc : Thread nD τ).loc main_v1_1) = m ((c.tc : Thread nD τ).loc main_arg1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

/-- Reading the final memory: a state holding what the host line leaves over the region's contents is `Copied`. -/
theorem copied_of_after (r : PUnit × MemSt nD τ sig (Elt F))
    (h : ∀ c : Dev nD, ∀ b ∈ Pipeline.restRefs sig cfg0.spec, r.2.mem ((c.tc : Thread nD τ).loc b)
      = StableHlo.after (List.flatten [hostOps1]) (regionVal m c) (Proc.devRef .tc b))
    (hs : r.2.sem = fun _ => 0) : Copied m r := by
  refine ⟨fun c => ⟨?_, ?_, ?_, ?_, ?_⟩, hs⟩
  · rw [h c main_v2 (by decide), tail_result, regionVal_of_written m c main_v1_0 (by decide), left_rows, V_rows]
    exact shapeCast_shapeCast _ _ _
  · rw [h c main_v1_1 (by decide), tail_of_ne _ _ (by decide), regionVal_of_written m c main_v1_1 (by decide), left_positions, V_main_arg1]
  · rw [h c main_arg0 (by decide), tail_of_ne _ _ (by decide), regionVal_of_not_written m c main_arg0 (by decide), V_main_arg0]
  · rw [h c main_arg1 (by decide), tail_of_ne _ _ (by decide), regionVal_of_not_written m c main_arg1 (by decide), V_main_arg1]
  · rw [h c main_arg2 (by decide), tail_of_ne _ _ (by decide), regionVal_of_not_written m c main_arg2 (by decide), V_main_arg2]

set_option backward.isDefEq.respectTransparency.types false in
/-- From any memory and all counters at zero the program runs to `Copied`. -/
theorem run : θ_run (defs (F := F)) (onTc (τ := τ) (main (F := F))) ⟨m, fun _ => 0, ρ⟩ (Copied m) :=
  Pipeline.θ_run_frame_dmaR_aroundV cfgs (dats m) (0 : Fin 1) launch0 cells defs₀ Variants.none cells_facts readRefs writtenRefs
    readRefs_sub writtenRefs_sub m ρ main (hbody := body_obligation m) (hshare := fun _ w => w.elim0) (howed := fun _ _ => rfl)
    (V₀ := V0 m) (opss := [hostOps1]) (hsub := sfx_sub) (hfresh := sfx_fresh) (hkeep := sfx_keeps) (G := left m)
    (hmain := around m) (hA := fun _ w => w.elim0) (hin := fun _ => .rfl) (hout := fun _ => .rfl)
    (Q' := Copied m) (hQ' := fun r h => copied_of_after m r (fun c => (h.1 c).2) h.2)

end Cert.KernelIdeal.Hand

end
-- ==== Proof.RefRun.lean ====
/-
  The run of the reference, which returns its arguments: it has no operation, so the memory and the counters end as they
  began.
-/
module

public import proofs.«01_k».proof.Proof.Gen.ReferenceIdeal
public import Idealize.ShloMosaic.Lib.Claim

@[expose] public section

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The reference ends with its arguments unchanged and every counter at zero: it has no semaphore at all. -/
def Unchanged (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

/-- With no semaphore declared, every assignment of counters is the zero one. -/
theorem no_counter (s : GSem nD τ sig → Int) : s = fun _ => 0 := by
  funext g
  rcases g with ⟨_, k | k⟩
  · exact Fin.elim0 k
  · exact Fin.elim0 k

/-- From any memory and all counters at zero the reference runs to `Unchanged`. -/
theorem run : θ_run (defs (F := F)) (onTc (τ := τ) (main (F := F))) ⟨m, fun _ => 0, ρ⟩ (Unchanged m) :=
  θ_run_mono (StableHlo.run_hlo (ops := []) defs main (fun _ => StableHlo.IsSeq.nil) (by decide) (by decide) trivial
      (fun _ h => nomatch h) m ρ)
    fun r h => ⟨fun c => ⟨h c main_arg0, h c main_arg1, h c main_arg2⟩, no_counter _⟩

end Cert.ReferenceIdeal.Hand

end
-- ==== Proof.Agree.lean ====
/-
  The kernel beside the reference, at any float type: each run leaves the arguments unchanged and every counter at zero,
  and from memories agreeing on the arguments the two end with equal results.
-/
module

public import proofs.«01_k».proof.Proof.Run
public import proofs.«01_k».proof.Proof.RefRun

@[expose] public section

noncomputable section

namespace Cert.Agree

open Idealize.ShloMosaic Idealize.SL.Sem
open Cert.KernelIdeal (main_v2 main_v1_1)

variable {F : FTy → Type} [FloatOps F]

/-- A memory of the kernel's program. -/
abbrev KMem (F : FTy → Type) : Type :=
  (ℓ : Loc Cert.KernelIdeal.nD Cert.KernelIdeal.τ Cert.KernelIdeal.sig) → Buf (Elt F) ℓ

/-- A memory of the reference's program. -/
abbrev RMem (F : FTy → Type) : Type :=
  (ℓ : Loc Cert.ReferenceIdeal.nD Cert.ReferenceIdeal.τ Cert.ReferenceIdeal.sig) → Buf (Elt F) ℓ

/-- What a kernel's memory holds in buffer `b` of device `c`'s TensorCore. -/
abbrev kAt (m : KMem F) (c : Dev Cert.KernelIdeal.nD) (b : Ref Cert.KernelIdeal.sig .tc) :
    Buf (Elt F) ((c.tc : Thread Cert.KernelIdeal.nD Cert.KernelIdeal.τ).loc b) :=
  m ((c.tc : Thread Cert.KernelIdeal.nD Cert.KernelIdeal.τ).loc b)

/-- What a reference's memory holds in buffer `b` of device `c`'s TensorCore. -/
abbrev rAt (m : RMem F) (c : Dev Cert.ReferenceIdeal.nD) (b : Ref Cert.ReferenceIdeal.sig .tc) :
    Buf (Elt F) ((c.tc : Thread Cert.ReferenceIdeal.nD Cert.ReferenceIdeal.τ).loc b) :=
  m ((c.tc : Thread Cert.ReferenceIdeal.nD Cert.ReferenceIdeal.τ).loc b)

/-- The kernel's three arguments are in `m'` as they are in `m`. -/
abbrev KKept (m m' : KMem F) (c : Dev Cert.KernelIdeal.nD) : Prop :=
  kAt m' c Cert.KernelIdeal.main_arg0 = kAt m c Cert.KernelIdeal.main_arg0
  ∧ kAt m' c Cert.KernelIdeal.main_arg1 = kAt m c Cert.KernelIdeal.main_arg1
  ∧ kAt m' c Cert.KernelIdeal.main_arg2 = kAt m c Cert.KernelIdeal.main_arg2

/-- The reference's three arguments are in `m'` as they are in `m`. -/
abbrev RKept (m m' : RMem F) (c : Dev Cert.ReferenceIdeal.nD) : Prop :=
  rAt m' c Cert.ReferenceIdeal.main_arg0 = rAt m c Cert.ReferenceIdeal.main_arg0
  ∧ rAt m' c Cert.ReferenceIdeal.main_arg1 = rAt m c Cert.ReferenceIdeal.main_arg1
  ∧ rAt m' c Cert.ReferenceIdeal.main_arg2 = rAt m c Cert.ReferenceIdeal.main_arg2

/-- The two memories hold the same three arguments. -/
abbrev SameArgs (m : KMem F) (m' : RMem F) (c : Dev Cert.KernelIdeal.nD) : Prop :=
  rAt m' c Cert.ReferenceIdeal.main_arg0 = kAt m c Cert.KernelIdeal.main_arg0
  ∧ rAt m' c Cert.ReferenceIdeal.main_arg1 = kAt m c Cert.KernelIdeal.main_arg1
  ∧ rAt m' c Cert.ReferenceIdeal.main_arg2 = kAt m c Cert.KernelIdeal.main_arg2

/-- The kernel runs, leaves its arguments unchanged and ends with every counter at zero. -/
theorem kernel_frame (m : KMem F) (g : Dev Cert.KernelIdeal.nD → PrngReg) :
    θ_run (Cert.KernelIdeal.defs (F := F)) (onTc (τ := Cert.KernelIdeal.τ) (Cert.KernelIdeal.main (F := F))) ⟨m, fun _ => 0, g⟩
      fun r => (∀ c, KKept m r.2.mem c) ∧ r.2.sem = fun _ => 0 :=
  θ_run_mono (Cert.KernelIdeal.Hand.run m g) fun _ h => ⟨fun c => (h.1 c).2.2, h.2⟩

/-- The reference runs, leaves its arguments unchanged and ends with every counter at zero. -/
theorem reference_frame (m : RMem F) (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩ fun r => (∀ c, RKept m r.2.mem c) ∧ r.2.sem = fun _ => 0 :=
  Cert.ReferenceIdeal.Hand.run m g

/-- From memories with the same arguments the kernel and the reference end with the same two results, `x` and the
    positions, and each leaves its arguments unchanged. -/
theorem same_results (m : KMem F) (g : Dev Cert.KernelIdeal.nD → PrngReg) (m' : RMem F)
    (g' : Dev Cert.ReferenceIdeal.nD → PrngReg) (hargs : ∀ c, SameArgs m m' c) :
    ∃ (v0 : (c : Dev Cert.KernelIdeal.nD) → Buf (Elt F) ((c.tc : Thread Cert.KernelIdeal.nD Cert.KernelIdeal.τ).loc main_v2))
      (v1 : (c : Dev Cert.KernelIdeal.nD) → Buf (Elt F) ((c.tc : Thread Cert.KernelIdeal.nD Cert.KernelIdeal.τ).loc main_v1_1)),
      θ_run (Cert.KernelIdeal.defs (F := F)) (onTc (τ := Cert.KernelIdeal.τ) (Cert.KernelIdeal.main (F := F))) ⟨m, fun _ => 0, g⟩
        (fun r => ∀ c, kAt r.2.mem c main_v2 = v0 c ∧ kAt r.2.mem c main_v1_1 = v1 c ∧ KKept m r.2.mem c)
      ∧ θ_run (Cert.ReferenceIdeal.defs (F := F)) (onTc (τ := Cert.ReferenceIdeal.τ) (Cert.ReferenceIdeal.main (F := F)))
        ⟨m', fun _ => 0, g'⟩ (fun r => ∀ c, rAt r.2.mem c Cert.ReferenceIdeal.main_arg0 = v0 c
          ∧ rAt r.2.mem c Cert.ReferenceIdeal.main_arg1 = v1 c ∧ RKept m' r.2.mem c) :=
  ⟨fun c => kAt m c Cert.KernelIdeal.main_arg0, fun c => kAt m c Cert.KernelIdeal.main_arg1,
    θ_run_mono (Cert.KernelIdeal.Hand.run m g) fun _ h => h.1,
    θ_run_mono (Cert.ReferenceIdeal.Hand.run m' g') fun _ h c =>
      ⟨(h.1 c).1.trans (hargs c).1, (h.1 c).2.1.trans (hargs c).2.1, h.1 c⟩⟩

end Cert.Agree

end
-- ==== Proof.lean ====
/-
  The proof of `Cert.Claim` (proofs.«01_k».proof.Defs): the kernel and the reference each run to the end, leave their
  arguments unchanged and end with every counter at zero, and their two results are equal, over the extended reals and
  bit for bit.

  The runs are proved once, for any float type, about the idealized programs. The idealization rewrote nothing, so each
  program as printed is its idealized one read at bits, by definition, and the same theorems serve both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Agree
public import Idealize.ShloMosaic.Adequacy
public import Idealize.ShloMosaic.Init

@[expose] public section

noncomputable section

namespace Cert.Proof

open Idealize.ShloMosaic Idealize.SL.Sem

/-- The kernel as printed keeps its arguments and ends with every counter at zero. -/
theorem kernel_bits : quiescent_Kernel (hKernel := Cert.Kernel.Gen.facts) :=
  fun m g _ => Cert.Agree.kernel_frame (F := Bits) m g

/-- The reference as printed keeps its arguments and ends with every counter at zero. -/
theorem reference_bits : quiescent_Reference (hReference := Cert.Reference.Gen.facts) :=
  fun m g _ => Cert.Agree.reference_frame (F := Bits) m g

/-- The results are equal over the extended reals. -/
theorem equal_ideal : algebraic_KernelIdeal_ReferenceIdeal (hKernelIdeal := Cert.KernelIdeal.Gen.facts)
    (hReferenceIdeal := Cert.ReferenceIdeal.Gen.facts) :=
  fun m g m' g' _ hargs => Cert.Agree.same_results (F := Ideal) m g m' g' hargs

/-- The results are equal bit for bit. -/
theorem equal_bits : bitexact_Kernel_Reference (hKernel := Cert.Kernel.Gen.facts) (hReference := Cert.Reference.Gen.facts) :=
  fun m g m' g' _ hargs => Cert.Agree.same_results (F := Bits) m g m' g' hargs

/-- Every claim of the certificate. -/
theorem claim : Cert.Claim :=
  ⟨Cert.Kernel.Gen.facts, Cert.KernelIdeal.Gen.facts, Cert.ReferenceIdeal.Gen.facts, Cert.Reference.Gen.facts,
    kernel_bits, fun m g _ => Cert.Agree.kernel_frame (F := Ideal) m g,
    fun m g _ => Cert.Agree.reference_frame (F := Ideal) m g, reference_bits, trivial, equal_ideal, equal_bits⟩

end Cert.Proof

end
